-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S2048x1024 : Shape := ⟨2, ![2048, 1024]⟩
abbrev S1024x8 : Shape := ⟨2, ![1024, 8]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S2048x8 : Shape := ⟨2, ![2048, 8]⟩
abbrev S_ : Shape := ⟨0, ![]⟩
abbrev S2048 : Shape := ⟨1, ![2048]⟩

class Facts : Prop where
  reducesTo_S2048x8_S2048_d1 : S2048x8.ReducesTo [1] S2048
  h_S_ : 0 < S_.numel
  bcast_S_S2048 : S_.BroadcastsInDim S2048 (![] : Fin 0 → Fin S2048.rank)
  dot_S2048x1024_S1024x8_S2048x8_1_0_0_1_n_n_wf : DotDims.WF S2048x1024 S1024x8 S2048x8 [1] [0] [0] [1] [] []

variable [Facts]

def dot_S2048x1024_S1024x8_S2048x8_1_0_0_1_n_n : DotDims S2048x1024 S1024x8 S2048x8 where
  lhsContracting := [1]
  rhsContracting := [0]
  lhsNonContracting := [0]
  rhsNonContracting := [1]
  lhsBatch := []
  rhsBatch := []
  wf := dot_S2048x1024_S1024x8_S2048x8_1_0_0_1_n_n_wf
def fn {F : FTy → Type} [FloatOps F] (main_arg0 : FVec F S2048x1024 .f32) (main_arg1 : FVec F S1024x8 .f32) (main_arg2 : FVec F S8x1024x2048 .f32) (main_arg3 : FVec F S8x2048 .f32) (main_arg4 : FVec F S8x2048x1024 .f32) (main_arg5 : FVec F S8x1024 .f32) : IVec S2048 1 :=
  let main_v0 : FVec F S2048x8 .f32 := (fun l r => Host.dotGeneral dot_S2048x1024_S1024x8_S2048x8_1_0_0_1_n_n none l r) main_arg0 main_arg1
  let main_cst : FVec F S_ .f32 := constant S_ .f32 0xFF800000#32
  let main_v1 : FVec F S2048 .f32 := (fun x v => Host.reduce FloatOps.maximumf x v reducesTo_S2048x8_S2048_d1 h_S_) main_v0 main_cst
  let main_cst_0 : FVec F S_ .f32 := constant S_ .f32 0xFF800000#32
  let main_v2 : FVec F S2048 .f32 := broadcastInDim S2048 ![] bcast_S_S2048 main_cst_0
  let main_v3 : IVec S2048 1 := cmpf .ogt main_v1 main_v2
  let main_cst_1 : FVec F S_ .f32 := constant S_ .f32 0x7F800000#32
  let main_v4 : FVec F S2048 .f32 := broadcastInDim S2048 ![] bcast_S_S2048 main_cst_1
  let main_v5 : IVec S2048 1 := cmpf .olt main_v1 main_v4
  let main_v6 : IVec S2048 1 := andi main_v3 main_v5
  main_v6
-- ==== Kernel.lean ====
abbrev S2048x1024 : Shape := ⟨2, ![2048, 1024]⟩
abbrev S1024x8 : Shape := ⟨2, ![1024, 8]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S8x1x2048 : Shape := ⟨3, ![8, 1, 2048]⟩
abbrev S8x1x1024 : Shape := ⟨3, ![8, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x2048x1024 : Shape := ⟨3, ![1, 2048, 1024]⟩
abbrev S1x1x1024 : Shape := ⟨3, ![1, 1, 1024]⟩
abbrev S512x8 : Shape := ⟨2, ![512, 8]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8x1024x2048, .f32⟩
  | .hbm, ⟨3, _⟩ => ⟨S8x2048, .f32⟩
  | .hbm, ⟨4, _⟩ => ⟨S8x2048x1024, .f32⟩
  | .hbm, ⟨5, _⟩ => ⟨S8x1024, .f32⟩
  | .hbm, ⟨6, _⟩ => ⟨S8x1x2048, .f32⟩
  | .hbm, ⟨7, _⟩ => ⟨S8x1x1024, .f32⟩
  | .hbm, ⟨8, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x8, .f32⟩
  | .local _ .vmem, ⟨3, _⟩ => ⟨S1x1024x2048, .f32⟩
  | .local _ .vmem, ⟨4, _⟩ => ⟨S1x1024x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x1024, .f32⟩
  | .local _ .vmem, ⟨8, _⟩ => ⟨S1x2048x1024, .f32⟩
  | .local _ .vmem, ⟨9, _⟩ => ⟨S1x1x1024, .f32⟩
  | .local _ .vmem, ⟨10, _⟩ => ⟨S1x1x1024, .f32⟩
  | .local _ .vmem, ⟨11, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v84 : BitVec 1 := Scalar.cmpi .eq arg0 c0_i32
  let v85 : BitVec 32 := Scalar.extui v84
  let c0_i32_34 : BitVec 32 := 0#32
  let v86 : BitVec 1 := Scalar.cmpi .ne v85 c0_i32_34
  v86

def k0_off1 (i : grid0.Coords) : Fin 2 → Nat :=
  let arg1 : BitVec 32 := BitVec.ofNat 32 (i 1).val
  let c512_i32 : BitVec 32 := 512#32
  let v83 : BitVec 32 := Scalar.muli arg1 c512_i32
  let v90 : Index := Scalar.indexCast v83
  let c0_37 : Index := 0#32
  ![v90.toNat, 0]
def k0_cond2 (i : grid0.Coords) : BitVec 1 :=
  let arg0 : BitVec 32 := BitVec.ofNat 32 (i 0).val
  let c0_i32_35 : BitVec 32 := 0#32
  let v87 : BitVec 1 := Scalar.cmpi .ne arg0 c0_i32_35
  let v88 : BitVec 32 := Scalar.extui v87
  let c0_i32_36 : BitVec 32 := 0#32
  let v89 : BitVec 1 := Scalar.cmpi .ne v88 c0_i32_36
  v89

def k0_off2 (i : grid0.Coords) : Fin 2 → Nat :=
  let arg1 : BitVec 32 := BitVec.ofNat 32 (i 1).val
  let c512_i32 : BitVec 32 := 512#32
  let v83 : BitVec 32 := Scalar.muli arg1 c512_i32
  let v90 : Index := Scalar.indexCast v83
  let c0_37 : Index := 0#32
  ![v90.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S2048x1024 : Shape := ⟨2, ![2048, 1024]⟩
abbrev S1024x8 : Shape := ⟨2, ![1024, 8]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S1x1x8 : Shape := ⟨3, ![1, 1, 8]⟩
abbrev S2048x2x8 : Shape := ⟨3, ![2048, 2, 8]⟩
abbrev S8x2048x2048 : Shape := ⟨3, ![8, 2048, 2048]⟩
abbrev S8x1x2048 : Shape := ⟨3, ![8, 1, 2048]⟩
abbrev S8x1x1024 : Shape := ⟨3, ![8, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8x1024x2048, .f32⟩
  | .hbm, ⟨3, _⟩ => ⟨S8x2048, .f32⟩
  | .hbm, ⟨4, _⟩ => ⟨S8x2048x1024, .f32⟩
  | .hbm, ⟨5, _⟩ => ⟨S8x1024, .f32⟩
  | .hbm, ⟨6, _⟩ => ⟨S2048x8, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048x1, .f32⟩
  | .hbm, ⟨13, _⟩ => ⟨S2048x8, .f32⟩
  | .hbm, ⟨14, _⟩ => ⟨S2048x8, .f32⟩
  | .hbm, ⟨15, _⟩ => ⟨S2048x8, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x8, .f32⟩
  | .hbm, ⟨20, _⟩ => ⟨S2048x8, .f32⟩
  | .hbm, ⟨21, _⟩ => ⟨S2048x2, .f32⟩
  | .hbm, ⟨22, _⟩ => ⟨S2048x2, .i32⟩
  | .hbm, ⟨23, _⟩ => ⟨S2048x2x1, .i32⟩
  | .hbm, ⟨24, _⟩ => ⟨S1x1x8, .i32⟩
  | .hbm, ⟨25, _⟩ => ⟨S2048x2x8, .i32⟩
  | .hbm, ⟨26, _⟩ => ⟨S2048x2x8, .i32⟩
  | .hbm, ⟨27, _⟩ => ⟨S2048x2x8, .i1⟩
  | .hbm, ⟨28, _⟩ => ⟨S2048x2x8, .f32⟩
  | .hbm, ⟨29, _⟩ => ⟨S2048x8, .f32⟩
  | .hbm, ⟨30, _⟩ => ⟨S8x2048x2048, .f32⟩
  | .hbm, ⟨31, _⟩ => ⟨S8x2048x2048, .f32⟩
  | .hbm, ⟨32, _⟩ => ⟨S8x1x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048x2048, .f32⟩
  | .hbm, ⟨47, _⟩ => ⟨S8x2048x2048, .f32⟩
  | .hbm, ⟨48, _⟩ => ⟨S_, .f32⟩
  | .hbm, ⟨49, _⟩ => ⟨S8x2048x2048, .f32⟩
  | .hbm, ⟨50, _⟩ => ⟨S8x2048x2048, .f32⟩
  | .hbm, ⟨51, _⟩ => ⟨S8x2048x2048, .f32⟩
  | .hbm, ⟨52, _⟩ => ⟨S8x2048x1024, .f32⟩
  | .hbm, ⟨53, _⟩ => ⟨S8x1x1024, .f32⟩
  | .hbm, ⟨54, _⟩ => ⟨S8x2048x1024, .f32⟩
  | .hbm, ⟨55, _⟩ => ⟨S8x2048x1024, .f32⟩
  | .hbm, ⟨56, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_values : Ref sig .tc := ⟨.hbm, 21, rfl⟩
abbrev main_indices : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.Body.lean ====
/-
  WHAT ONE BLOCK COMPUTES. The kernel's body at grid point `(e, b)`: expert `e`'s contribution to the 512 tokens of block `b`
  (`contrib`), and the body's triple in its two cases. For the first expert the body stores the contribution into the block's
  rows of the resident output (`run_first`); for a later one it adds the contribution to what those rows held (`run_later`).
  Every other row keeps what it held.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WritesUnit
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Expert `e`'s contribution to a block of 512 tokens, of the block `x0`, the router's weights `x1` and the expert's own
    weights `x2`, `x4` and biases `x3`, `x5`: the expert's output at each token, times the weight the router gives it there. -/
def contrib (e : BitVec 32) (x0 : Vec F S512x1024 .f32) (x1 : Vec F S1024x8 .f32) (x2 : Vec F S1x1024x2048 .f32)
    (x3 : Vec F S1x1x2048 .f32) (x4 : Vec F S1x2048x1024 .f32) (x5 : Vec F S1x1x1024 .f32) : FVec F S512x1024 .f32 :=
  k0_pay1 (k0_pay10 x0 x2 x3 x4 x5)
    (k0_pay11 e (iota .tc S512x8 32 [1] iota_S512x8_d1_w32) (k0_pay7 x0 x1) (k0_pay8 x0 x1) (k0_pay9 x0 x1))

/-- What the first expert's store writes is the contribution. -/
theorem store_first (e : BitVec 32) (x0 : Vec F S512x1024 .f32) (x1 : Vec F S1024x8 .f32) (x2 : Vec F S1x1024x2048 .f32)
    (x3 : Vec F S1x1x2048 .f32) (x4 : Vec F S1x2048x1024 .f32) (x5 : Vec F S1x1x1024 .f32) :
    k0_pay1 (k0_pay10 x0 x2 x3 x4 x5)
        (k0_pay11 e (iota .tc S512x8 32 [1] iota_S512x8_d1_w32) (k0_pay7 x0 x1) (k0_pay8 x0 x1) (k0_pay9 x0 x1))
      = contrib e x0 x1 x2 x3 x4 x5 := rfl

/-- What a later expert's store writes is the rows as loaded plus the contribution. -/
theorem store_later (e : BitVec 32) (x0 : Vec F S512x1024 .f32) (x1 : Vec F S1024x8 .f32) (x2 : Vec F S1x1024x2048 .f32)
    (x3 : Vec F S1x1x2048 .f32) (x4 : Vec F S1x2048x1024 .f32) (x5 : Vec F S1x1x1024 .f32) (v : Vec F S512x1024 .f32) :
    k0_pay2 (k0_pay10 x0 x2 x3 x4 x5)
        (k0_pay11 e (iota .tc S512x8 32 [1] iota_S512x8_d1_w32) (k0_pay7 x0 x1) (k0_pay8 x0 x1) (k0_pay9 x0 x1)) v
      = addf v (contrib e x0 x1 x2 x3 x4 x5) := by
  rw [← store_first]
  unfold k0_pay2
  rw [shapeCast_self]

/-- Index `y` of the whole array is position `x` of block `b`. -/
def AtBlock (b : ℕ) (y : S2048x1024.Idx) (x : S512x1024.Idx) : Prop :=
  (y 0).val = 512 * b + (x 0).val ∧ (y 1).val = (x 1).val

/-- `X` is `Y` with block `b`'s rows replaced by `P`. -/
def Replaced (b : ℕ) (Y X : Vec F S2048x1024 .f32) (P : S512x1024.Idx → S2048x1024.Idx → F .f32) : Prop :=
  (∀ y x, AtBlock b y x → X y = P x y)
  ∧ ∀ y : S2048x1024.Idx, ((y 0).val < 512 * b ∨ 512 * b + 512 ≤ (y 0).val) → X y = Y y

theorem zeros2 : (![0, 0] : Fin 2 → ℕ) = fun _ => 0 := by decide
theorem zeros3 : (![0, 0, 0] : Fin 3 → ℕ) = fun _ => 0 := by decide

section Runs

variable (c : Dev nD) (i : grid0.Coords)
  (arg2 : Memref sig .tc .vmem S512x1024 .f32) (harg2 : arg2.IsWhole) (arg3 : Memref sig .tc .vmem S1024x8 .f32) (harg3 : arg3.IsWhole)
  (arg4 : Memref sig .tc .vmem S1x1024x2048 .f32) (harg4 : arg4.IsWhole) (arg5 : Memref sig .tc .vmem S1x1x2048 .f32) (harg5 : arg5.IsWhole)
  (arg6 : Memref sig .tc .vmem S1x2048x1024 .f32) (harg6 : arg6.IsWhole) (arg7 : Memref sig .tc .vmem S1x1x1024 .f32) (harg7 : arg7.IsWhole)
  (arg8 : Memref sig .tc .vmem S2048x1024 .f32) (harg8 : arg8.IsWhole)
  (x0 : Vec F S512x1024 .f32) (x1 : Vec F S1024x8 .f32) (x2 : Vec F S1x1024x2048 .f32) (x3 : Vec F S1x1x2048 .f32)
  (x4 : Vec F S1x2048x1024 .f32) (x5 : Vec F S1x1x1024 .f32) (Y : Vec F S2048x1024 .f32)

/-- The six input buffers at their contents. -/
def inputs : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

/-- The body at grid point `i`, on inputs that it leaves as they are and on an output buffer that holds `Y`, ends with that
    buffer at `Y` with the rows of the point's block replaced by `P`. -/
def Triple (P : S512x1024.Idx → S2048x1024.Idx → F .f32) : Prop :=
  ∀ (E : Set ℕ) (K : PUnit → sProp 𝕄),
    iprop(inputs c arg2 arg3 arg4 arg5 arg6 arg7 x0 x1 x2 x3 x4 x5 ∗ owns (c : Thread nD τ) arg8 fullShare Y
        ∗ (iprop(inputs c arg2 arg3 arg4 arg5 arg6 arg7 x0 x1 x2 x3 x4 x5
            ∗ ∃ X, ⌜Replaced (i 1).val Y X P⌝ ∗ owns (c : Thread nD τ) arg8 fullShare X) -∗ K ⟨⟩))
      ⊢ wp frame (wpE (defs₀ (F := F)) Variants.none c none) E
          (cc0__moe_dense_kernel i arg2 harg2 arg3 harg3 arg4 harg4 arg5 harg5 arg6 harg6 arg7 harg7 arg8 harg8) K

set_option maxHeartbeats 1000000 in
/-- For the first expert the body stores its contribution into the block's rows. -/
theorem run_first (hc0 : k0_cond1 i = 1#1) (hc1 : ¬ k0_cond2 i = 1#1) :
    Triple c i arg2 harg2 arg3 harg3 arg4 harg4 arg5 harg5 arg6 harg6 arg7 harg7 arg8 harg8 x0 x1 x2 x3 x4 x5 Y (fun x _ => contrib (BitVec.ofNat 32 (i 0).val) x0 x1 x2 x3 x4 x5 x) := by
  intro E K
  simp only [cc0__moe_dense_kernel_eq_skeleton]; unfold cc0__moe_dense_kernel_skel
  simp only [k0_part1_eq_skeleton, k0_part2_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc0 | sl_exact hc1)
  sl_step
  iapply Hk
  isplitl [H0 H1 H2 H3 H4 H5]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    iexists _; isplitr; · ipureintro; exact hf5
    iexact H5
  iexists _; isplitr
  rotate_left
  · iexists _; isplitr; swap; · iexact H6
    ipureintro; rfl
  ipureintro
  sl_unfold_run_names
  simp only [View.readAt_eq_ld, hf0, hf1, hf2, hf3, hf4, hf5, hf6, View.ld_unit_zero (S := S512x1024) zeros2,
    View.ld_unit_zero (S := S1024x8) zeros2, View.ld_unit_zero (S := S1x1024x2048) zeros3, View.ld_unit_zero (S := S1x1x2048) zeros3,
    View.ld_unit_zero (S := S1x2048x1024) zeros3, View.ld_unit_zero (S := S1x1x1024) zeros3]
  rw [store_first]
  generalize hP : contrib (BitVec.ofNat 32 (i 0).val) x0 x1 x2 x3 x4 x5 = P
  exact ⟨fun y x h => View.read_writes_cons_rows_of_mem _ _ _ _ _ y x (k0_off1_eq i) h.1 h.2,
    fun y h => (View.read_writes_cons_rows_of_not_mem _ _ _ _ _ y (k0_off1_eq i) rfl h).trans (congrFun hf6 y)⟩

set_option maxHeartbeats 1000000 in
/-- For a later expert the body adds its contribution to what the block's rows held. -/
theorem run_later (hc0 : ¬ k0_cond1 i = 1#1) (hc1 : k0_cond2 i = 1#1) :
    Triple c i arg2 harg2 arg3 harg3 arg4 harg4 arg5 harg5 arg6 harg6 arg7 harg7 arg8 harg8 x0 x1 x2 x3 x4 x5 Y (fun x y => FloatOps.addf (Y y) (contrib (BitVec.ofNat 32 (i 0).val) x0 x1 x2 x3 x4 x5 x)) := by
  intro E K
  simp only [cc0__moe_dense_kernel_eq_skeleton]; unfold cc0__moe_dense_kernel_skel
  simp only [k0_part1_eq_skeleton, k0_part2_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc0 | sl_exact hc1)
  sl_step
  iapply Hk
  isplitl [H0 H1 H2 H3 H4 H5]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    iexists _; isplitr; · ipureintro; exact hf5
    iexact H5
  iexists _; isplitr
  rotate_left
  · iexists _; isplitr; swap; · iexact H6
    ipureintro; rfl
  ipureintro
  sl_unfold_run_names
  simp only [View.readAt_eq_ld, hf0, hf1, hf2, hf3, hf4, hf5, hf6, View.ld_unit_zero (S := S512x1024) zeros2,
    View.ld_unit_zero (S := S1024x8) zeros2, View.ld_unit_zero (S := S1x1024x2048) zeros3, View.ld_unit_zero (S := S1x1x2048) zeros3,
    View.ld_unit_zero (S := S1x2048x1024) zeros3, View.ld_unit_zero (S := S1x1x1024) zeros3]
  rw [store_later]
  generalize hP : contrib (BitVec.ofNat 32 (i 0).val) x0 x1 x2 x3 x4 x5 = P
  refine ⟨fun y x h => (View.read_writes_cons_rows_of_mem _ _ _ _ _ y x (k0_off2_eq i) h.1 h.2).trans ?_,
    fun y h => (View.read_writes_cons_rows_of_not_mem _ _ _ _ _ y (k0_off2_eq i) rfl h).trans (congrFun hf6 y)⟩
  refine congrArg (fun v => FloatOps.addf v (P x)) (congrArg Y (funext fun a => Fin.ext ?_))
  show k0_off2 i a + 1 * (x a).val = (y a).val
  rw [k0_off2_eq]
  match a with
  | ⟨0, _⟩ => exact (congrArg (_ + ·) (Nat.one_mul _)).trans h.1.symm
  | ⟨1, _⟩ => exact (congrArg (_ + ·) (Nat.one_mul _)).trans ((Nat.zero_add _).trans h.2.symm)

end Runs

end Cert.KernelIdeal.Body

end
-- ==== Proof.Run.lean ====
/-
  WHAT THE ARRAY HOLDS. The grid visits expert `e` on block `b` at point `4 e + b`. `upTo m c e b` is the sum of the contributions
  of the experts `0 … e` to block `b`, in that order; after point `t` every block holds the sum over the experts the grid has
  visited there so far (`Held`), so the result array ends at the sum over all eight (`run`), every argument is as it was, and no
  semaphore is left counted.
-/
module

public import proofs.«01_k».proof.Proof.Body
public import proofs.«01_k».proof.Proof.Gen.KernelIdeal.Frame
public import Idealize.ShloMosaic.Lib.Pipeline.DatRel
public import Idealize.ShloMosaic.Lib.Pipeline.ArrRel
public import Idealize.ShloMosaic.Lib.WordCmp
public import Idealize.ShloMosaic.Lib.Claim

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem lt_points (t : Fin cfg0.N) : t.val < 32 := Nat.lt_of_lt_of_eq t.isLt N_0

/-- The expert of point `t`. -/
theorem expert_val (t : Fin cfg0.N) : (grid0.coords t 0).val = t.val / 4 := by
  have h := lt_points t
  exact (Pipeline.Grid.coords_val t 0 (by decide) rfl : (grid0.coords t 0).val = t.val / 4 % 8).trans (by omega)

/-- The block of point `t`. -/
theorem block_val (t : Fin cfg0.N) : (grid0.coords t 1).val = t.val % 4 := by
  exact (Pipeline.Grid.coords_val t 1 (by decide) rfl : (grid0.coords t 1).val = t.val / 1 % 4).trans (by omega)

/-- The first store's condition holds at the first expert's points, -/
theorem cond1_iff (t : Fin cfg0.N) : k0_cond1 (grid0.coords t) = 1#1 ↔ t.val < 4 := by
  have ht := lt_points t
  have e0 := expert_val t
  simp only [k0_cond1, e0]
  word_cmp

/-- and the second's at every other. -/
theorem cond2_iff (t : Fin cfg0.N) : k0_cond2 (grid0.coords t) = 1#1 ↔ 4 ≤ t.val := by
  have ht := lt_points t
  have e0 := expert_val t
  simp only [k0_cond2, e0]
  word_cmp

/-- The point of expert `e` on block `b`. -/
def point (e b : ℕ) : Fin cfg0.N := ⟨(4 * e + b) % 32, Nat.lt_of_lt_of_eq (Nat.mod_lt _ (by decide)) N_0.symm⟩

/-! ## What the output holds after each point -/

/-- The contribution that the body computes at point `t`. -/
def contribAt (c : Dev nD) (t : Fin cfg0.N) : FVec F S512x1024 .f32 :=
  contrib (BitVec.ofNat 32 (grid0.coords t 0).val) (iblk m c 0 t) (iblk m c 1 t) (iblk m c 2 t) (iblk m c 3 t) (iblk m c 4 t) (iblk m c 5 t)

/-- The contributions of the experts `0 … e` to block `b`, summed in that order. -/
def upTo (c : Dev nD) : ℕ → ℕ → S512x1024.Idx → F .f32
  | 0, b, x => contribAt m c (point 0 b) x
  | e + 1, b, x => FloatOps.addf (upTo c e b x) (contribAt m c (point (e + 1) b) x)

/-- After point `t` each block `b` holds the sum over the experts visited there, the last of them being `e`. -/
def Held (c : Dev nD) (t : ℕ) (X : Vec F S2048x1024 .f32) : Prop :=
  ∀ e b : ℕ, b < 4 → 4 * e + b ≤ t → t < 4 * (e + 1) + b → ∀ y x, AtBlock b y x → X y = upTo m c e b x

/-- A first expert's point puts its block at the contribution and leaves the other blocks. -/
theorem held_first (c : Dev nD) (t : Fin cfg0.N) (ht : t.val < 4) (Y X : Vec F S2048x1024 .f32)
    (hY : t.val ≠ 0 → Held m c (t.val - 1) Y)
    (hX : Replaced (grid0.coords t 1).val Y X (fun x _ => contribAt m c t x)) : Held m c t.val X := by
  rw [block_val] at hX
  intro e b hb h1 h2 y x hyx
  obtain rfl : e = 0 := by omega
  by_cases h : b = t.val % 4
  · have hp : point 0 b = t := Fin.ext (by simp only [point]; omega)
    rw [hX.1 y x (h ▸ hyx)]
    simp only [upTo, hp]
  · have hx := (x 0).isLt
    have h512 : (x 0).val < 512 := hx
    rw [hX.2 y (by have := hyx.1; omega)]
    exact hY (by omega) 0 b hb (by omega) (by omega) y x hyx

/-- A later expert's point adds the contribution to its block and leaves the other blocks. -/
theorem held_later (c : Dev nD) (t : Fin cfg0.N) (ht : 4 ≤ t.val) (Y X : Vec F S2048x1024 .f32)
    (hY : Held m c (t.val - 1) Y)
    (hX : Replaced (grid0.coords t 1).val Y X (fun x y => FloatOps.addf (Y y) (contribAt m c t x))) : Held m c t.val X := by
  rw [block_val] at hX
  have h32 := lt_points t
  intro e b hb h1 h2 y x hyx
  by_cases h : b = t.val % 4
  · obtain ⟨e, rfl⟩ : ∃ e', e = e' + 1 := ⟨e - 1, by omega⟩
    have hp : point (e + 1) b = t := Fin.ext (by simp only [point]; omega)
    rw [hX.1 y x (h ▸ hyx)]
    simp only [upTo, hp, hY e b hb (by omega) (by omega) y x hyx]
  · have h512 : (x 0).val < 512 := (x 0).isLt
    rw [hX.2 y (by have := hyx.1; omega)]
    exact hY e b hb (by omega) (by omega) y x hyx

/-! ## The proof data -/

/-- The output window, whose contents are held to `Held`. -/
def marked : Fin 7 → Bool := fun w => w.val == 6

/-- The proof data: the arrays as the region finds them, each input's buffer left at its block, the output's held to `Held`. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- What the body leaves in a window at a point: the output at `Held`, nothing said of the others. -/
def rel (c : Dev nD) : (w : Fin cfg0.W) → Fin cfg0.N → ((cfg0.win w).block.Idx → Elt F (cfg0.win w).elt) → Prop := fun w =>
  match w with
  | ⟨6, _⟩ => fun t X => Held m c t.val X
  | ⟨0, _⟩ => fun _ _ => True
  | ⟨1, _⟩ => fun _ _ => True
  | ⟨2, _⟩ => fun _ _ => True
  | ⟨3, _⟩ => fun _ _ => True
  | ⟨4, _⟩ => fun _ _ => True
  | ⟨5, _⟩ => fun _ _ => True

/-- The proof data with the output held to its relation. -/
abbrev rdats (c : Dev nD) : RDat τ (Elt F) Unit ℕ (UR sig nD τ) ℕ cfg0 c := (dats m c).toRRel marked (rel m c)

theorem A_eq (c : Dev nD) (w : Fin cfg0.W) : (dats m c).A w = V m c (Pipeline.arrRef spec0 w) := by dsimp only [dats]

theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t = iblk m c 4 t := by dsimp only [dats]
theorem after_5 (c : Dev nD) (t : Fin cfg0.N) : (dats m c).after 5 t = iblk m c 5 t := by dsimp only [dats]

theorem before_0 (c : Dev nD) (t : Fin cfg0.N) (d) : (dats m c).before 0 t d = iblk m c 0 t :=
  before0_0_of m (dats m c) (A_eq m c 0) (after_0 m c) t d
theorem before_1 (c : Dev nD) (t : Fin cfg0.N) (d) : (dats m c).before 1 t d = iblk m c 1 t :=
  before0_1_of m (dats m c) (A_eq m c 1) (after_1 m c) t d
theorem before_2 (c : Dev nD) (t : Fin cfg0.N) (d) : (dats m c).before 2 t d = iblk m c 2 t :=
  before0_2_of m (dats m c) (A_eq m c 2) (after_2 m c) t d
theorem before_3 (c : Dev nD) (t : Fin cfg0.N) (d) : (dats m c).before 3 t d = iblk m c 3 t :=
  before0_3_of m (dats m c) (A_eq m c 3) (after_3 m c) t d
theorem before_4 (c : Dev nD) (t : Fin cfg0.N) (d) : (dats m c).before 4 t d = iblk m c 4 t :=
  before0_4_of m (dats m c) (A_eq m c 4) (after_4 m c) t d
theorem before_5 (c : Dev nD) (t : Fin cfg0.N) (d) : (dats m c).before 5 t d = iblk m c 5 t :=
  before0_5_of m (dats m c) (A_eq m c 5) (after_5 m c) t d

/-- After the first point the body finds the output as the point before left it. -/
theorem finds_held (c : Dev nD) (t : Fin cfg0.N) (ht : t.val ≠ 0) (Y : Vec F S2048x1024 .f32)
    (h : (rdats m c).Finds 6 t Y) : Held m c (t.val - 1) Y := by
  have h32 := lt_points t
  rcases ((rdats m c).finds_of_pos (w := (6 : Fin 7)) (Window.fetch_out win0_6 rfl t) ht Y).mp h with hf | hl
  · have := (flush0_6 _).mp hf
    simp only at this
    omega
  · exact (dats m c).toRRel_leaves (Rl := rel m c) (w := (6 : Fin 7)) (fgt := marked) rfl hl

/-! ## The body obligation -/

/-- What the body is called with at point `t`, window by window, -/
def bodyPre (c : Dev nD) (t : Fin cfg0.N) : sProp 𝕄 :=
  iprop((dats m c).Φ t.castSucc ∗ (dats m c).owesAt () t.castSucc
    ∗ (∃ d, owns (c : Thread nD τ) (st0_0 t) fullShare ((dats m c).before 0 t d))
    ∗ (∃ d, owns (c : Thread nD τ) (st0_1 t) fullShare ((dats m c).before 1 t d))
    ∗ (∃ d, owns (c : Thread nD τ) (st0_2 t) fullShare ((dats m c).before 2 t d))
    ∗ (∃ d, owns (c : Thread nD τ) (st0_3 t) fullShare ((dats m c).before 3 t d))
    ∗ (∃ d, owns (c : Thread nD τ) (st0_4 t) fullShare ((dats m c).before 4 t d))
    ∗ (∃ d, owns (c : Thread nD τ) (st0_5 t) fullShare ((dats m c).before 5 t d))
    ∗ (∃ Y, ⌜(rdats m c).Finds 6 t Y⌝ ∗ owns (c : Thread nD τ) (st0_6 t) fullShare Y))

/-- and what it returns. -/
def bodyPost (c : Dev nD) (t : Fin cfg0.N) : sProp 𝕄 :=
  iprop((dats m c).Φ t.castSucc ∗ (dats m c).owesAt () t.castSucc
    ∗ owns (c : Thread nD τ) (st0_0 t) fullShare ((dats m c).after 0 t)
    ∗ owns (c : Thread nD τ) (st0_1 t) fullShare ((dats m c).after 1 t)
    ∗ owns (c : Thread nD τ) (st0_2 t) fullShare ((dats m c).after 2 t)
    ∗ owns (c : Thread nD τ) (st0_3 t) fullShare ((dats m c).after 3 t)
    ∗ owns (c : Thread nD τ) (st0_4 t) fullShare ((dats m c).after 4 t)
    ∗ owns (c : Thread nD τ) (st0_5 t) fullShare ((dats m c).after 5 t)
    ∗ (∃ X, ⌜Held m c t.val X⌝ ∗ owns (c : Thread nD τ) (st0_6 t) fullShare X))

/-- The body at any point, from its triple at the blocks (`hrun`) and the step from what it found (`hstep`). -/
theorem sound_of (c : Dev nD) (t : Fin cfg0.N) (P : Vec F S2048x1024 .f32 → S512x1024.Idx → S2048x1024.Idx → F .f32)
    (hrun : ∀ Y, Triple c (grid0.coords t) (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      (win0_6.stage (cfg0.slots t 6)) (hstage0_6 ((cfg0.slots t 6).cast nbuf0_6))
      (iblk m c 0 t) (iblk m c 1 t) (iblk m c 2 t) (iblk m c 3 t) (iblk m c 4 t) (iblk m c 5 t) Y (P Y))
    (hstep : ∀ Y X, (t.val ≠ 0 → Held m c (t.val - 1) Y) → Replaced (grid0.coords t 1).val Y X (P Y) → Held m c t.val X) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩, ⟨%Y, %hY, H6⟩⟩
  iapply (hrun Y Set.univ _)
  unfold inputs
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  iintro ⟨⟨H0, H1, H2, H3, H4, H5⟩, ⟨%X, %hX, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists X
  isplitr
  · ipureintro
    exact hstep Y X (fun ht => finds_held m c t ht Y hY) hX
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val < 4
  · exact sound_of m c t (fun _ x _ => contribAt m c t x)
      (fun Y => run_first c (grid0.coords t) _ _ _ _ _ _ _ _ _ _ _ _ _ _ _ _ _ _ _ _ Y ((cond1_iff t).mpr h)
        (fun hc => absurd ((cond2_iff t).mp hc) (by omega)))
      (fun Y X hY hX => held_first m c t h Y X hY hX)
  · exact sound_of m c t (fun Y x y => FloatOps.addf (Y y) (contribAt m c t x))
      (fun Y => run_later c (grid0.coords t) _ _ _ _ _ _ _ _ _ _ _ _ _ _ _ _ _ _ _ _ Y (fun hc => h ((cond1_iff t).mp hc))
        ((cond2_iff t).mpr (by omega)))
      (fun Y X hY hX => held_later m c t (by omega) Y X (hY (by omega)) hX)

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) :
    Pipeline.BodyObligationRel (dats (F := F) m c) (defs₀ (F := F)) Variants.none () Set.univ marked (rel m c) := fun t => by
  rw [bigSep_W0, bigSep_W0, defs₀_row]
  exact triple_restated (sound_body m c t) rfl .rfl fun _ => .rfl

/-! ## The run -/

set_option backward.isDefEq.respectTransparency.types false in
/-- The launch: every array ends where the relations place it, and no semaphore is left counted. -/
theorem run_main : θ_run defs (onTc (τ := τ) (main (F := F))) (s₀ m ρ)
    (fun r => Pipeline.RDat.FramePost (cfgs 0) (rdats m) (V m) r ∧ r.2.sem = fun _ => 0) :=
  Pipeline.RDat.θ_run_frame (Q' := _) cfgs (0 : Fin 1) launch0 defs₀ Variants.none (rdats m) m ρ main
    (hbody := fun c => Pipeline.BodyObligationRel.toRRel _ (body_obligation m c)) (hshare := fun c => (dats m c).share_full fun _ => rfl)
    (howed := fun _ _ => rfl) (V := V m) (hmain := hmain m Variants.none) (hA := A_eq m) (hΦ := fun _ _ => rfl)

/-- An array written back once, whole, at point `t₀` ends at something the body may have left in its buffer there. -/
theorem emb_of_framePost {cfg₁ : Cfg sig Λ₀} {rd : (c : Dev nD) → RDat τ (Elt F) Unit ℕ (UR sig nD τ) ℕ cfg₁ c}
    {V : (c : Dev nD) → (b : Ref sig .tc) → Buf (Elt F) ((c.tc : Thread nD τ).loc b)} {r : PUnit × MemSt nD τ sig (Elt F)}
    (h : Pipeline.RDat.FramePost cfg₁ rd V r) (c : Dev nD) (w : Fin cfg₁.W) {t₀ : Fin cfg₁.N} (h₀ : (cfg₁.win w).WholeAt t₀) :
    ∃ X, (rd c).Leaves w t₀ X ∧ ∀ j : (cfg₁.win w).shape.Idx,
      r.2.mem ((cfg₁.spec w).arr.view.loc (c.tc : Thread nD τ)) ((cfg₁.win w).arr.view.emb j)
        = cast (congrArg (Elt F) (cfg₁.win w).arr.view.elt_eq.symm) (X fun a => ⟨j a, h₀.lt_size j a⟩) :=
  ((h c).1 w).emb_eq_of_wholeAt h₀

/-- The last point. -/
def last : Fin cfg0.N := ⟨31, Nat.lt_of_lt_of_eq (by decide) N_0.symm⟩

theorem wholeAt_last : (cfg0.win 6).WholeAt last := by
  refine ⟨(flush0_6 _).mpr rfl, fun t ht => Fin.ext ?_, fun a => ?_⟩
  · have := (flush0_6 t).mp ht
    have := lt_points t
    show t.val = 31
    omega
  · match a with
    | ⟨0, _⟩ => exact ⟨rfl, rfl⟩
    | ⟨1, _⟩ => exact ⟨rfl, rfl⟩

/-- The result array holds every block's sum over the eight experts. -/
theorem result_of (r : PUnit × MemSt nD τ sig (Elt F)) (h : Pipeline.RDat.FramePost (cfgs 0) (rdats m) (V m) r) (c : Dev nD) :
    ∀ b < 4, ∀ (y : S2048x1024.Idx) (x : S512x1024.Idx), AtBlock b y x →
      r.2.mem ((c.tc : Thread nD τ).loc main_v2) y = upTo m c 7 b x := by
  obtain ⟨X, hX, hG⟩ := emb_of_framePost h c 6 wholeAt_last
  have hH : Held m c 31 X := (dats m c).toRRel_leaves (Rl := rel m c) (w := (6 : Fin 7)) (fgt := marked) rfl hX
  intro b hb y x hyx
  exact (hG y).trans (hH 7 b hb (by omega) (by omega) y x hyx)

/-- The kernel's run: the result at the sums, the arguments as they were, no semaphore counted. -/
theorem run : θ_run defs (onTc (τ := τ) (main (F := F))) ⟨m, fun _ => 0, ρ⟩ (fun r =>
    (∀ c : Dev nD,
      (∀ b < 4, ∀ (y : S2048x1024.Idx) (x : S512x1024.Idx), AtBlock b y x →
        r.2.mem ((c.tc : Thread nD τ).loc main_v2) y = upTo m c 7 b x)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run defs _ _).mono (fun r h => ⟨fun c => ⟨result_of m r h.1 c,
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      (Pipeline.RDat.FramePost.arr_in h.1 c 4 rfl).trans ((A_eq m c 4).trans (V_main_arg4 m c)),
      ((h.1 c).2 main_arg5 (Pipeline.mem_restRefs_of main_arg5 (by decide) (by decide))).trans (V_main_arg5 m c)⟩, h.2⟩)
    (run_main m ρ)

end Cert.KernelIdeal.Run

end
-- ==== Proof.Printed.lean ====
/-
  THE KERNEL AS PRINTED. The ideal program is the printed kernel's own text, with no operation rewritten: their tables of bodies and
  their mains are equal. So the run of `Run.lean`, which holds in any floats, is a run of the printed kernel too.
-/
module

public import proofs.«01_k».proof.Defs
public import proofs.«01_k».proof.Proof.Run
public import proofs.«01_k».proof.Proof.Gen.Kernel

@[expose] public section

noncomputable section

namespace Cert.Kernel.Printed

open Idealize.ShloMosaic Idealize.SL.Sem

/-- The two programs' tables of bodies are equal. -/
theorem defs_eq : @Cert.Kernel.defs Bits _ _ = @Cert.KernelIdeal.defs Bits _ _ := by sl_kernel_rfl

/-- The printed kernel ends without fault, its arguments as they were and no semaphore counted. -/
theorem frame : Cert.quiescent_Kernel := fun m ρ _ =>
  (θ_run (Cert.Kernel.defs (F := Bits)) _ _).mono (fun _ h => ⟨fun c => (h.1 c).2, h.2⟩)
    (defs_eq ▸ Cert.KernelIdeal.Run.run (F := Bits) m ρ)

end Cert.Kernel.Printed

end
-- ==== Proof.TopTwo.lean ====
/- The two largest entries of a row, ties going to the lower position: what the words mean, that there is only one
   such pair of positions, and two ways of finding it. One is a stable descending sort, whose first two positions they
   are; the other takes the least position that reaches the largest entry, puts the bottom element in its place, and
   does the same again. -/
module

public import Idealize.ShloMosaic.Lib.SortFacts
public import Idealize.ShloMosaic.Lib.WordArith
public import Idealize.ShloMosaic.PureOps.Reduce
public import Idealize.ShloMosaic.PureOps.Ideal
public import Mathlib.Data.EReal.Basic

@[expose] public section

namespace Cert.TopTwo

open Idealize.ShloMosaic

variable {α : Type*} [LinearOrder α] {n : ℕ}

/-- Position `a` comes before position `b` in descending order: its entry is larger, or the entries are equal and `a`
    is the lower position. -/
def Before (p : Fin n → α) (a b : Fin n) : Prop := p b < p a ∨ (p b = p a ∧ a < b)

theorem Before.trans {p : Fin n → α} {a b c : Fin n} (h : Before p a b) (h' : Before p b c) : Before p a c := by
  rcases h with h | ⟨h, hl⟩ <;> rcases h' with h' | ⟨h', hl'⟩
  · exact .inl (h'.trans h)
  · exact .inl (h' ▸ h)
  · exact .inl (h ▸ h')
  · exact .inr ⟨h'.trans h, hl.trans hl'⟩

theorem Before.asymm {p : Fin n → α} {a b : Fin n} (h : Before p a b) (h' : Before p b a) : False := by
  rcases h with h | ⟨h, hl⟩ <;> rcases h' with h' | ⟨h', hl'⟩
  · exact lt_asymm h h'
  · exact absurd h' h.ne'
  · exact absurd h h'.ne'
  · exact lt_asymm hl hl'

/-- Positions `i` and `j` hold the largest and the second largest entry. -/
structure IsTop (p : Fin n → α) (i j : Fin n) : Prop where
  first : ∀ k, k ≠ i → Before p i k
  other : j ≠ i
  second : ∀ k, k ≠ i → k ≠ j → Before p j k

/-- There is only one such pair of positions. -/
theorem IsTop.unique {p : Fin n → α} {i j i' j' : Fin n} (h : IsTop p i j) (h' : IsTop p i' j') : i = i' ∧ j = j' := by
  have e : i = i' := by
    by_contra hne
    exact (h.first i' (Ne.symm hne)).asymm (h'.first i hne)
  subst e
  refine ⟨rfl, ?_⟩
  by_contra hne
  exact (h.second j' h'.other (Ne.symm hne)).asymm (h'.second j h.other hne)

/-! ## By sorting -/

/-- Inserting a position into a list sorted in descending order, all of whose positions are higher, keeps it sorted. -/
theorem pairwise_insert (p : Fin n → α) (a : Fin n) (l : List (Fin n)) (hl : l.Pairwise (Before p)) (ha : ∀ b ∈ l, a < b) :
    (insertBefore (fun k k' => decide (p k' < p k)) a l).Pairwise (Before p) := by
  induction l with
  | nil => simp [insertBefore]
  | cons b l ih =>
    rw [List.pairwise_cons] at hl
    unfold insertBefore
    split
    next h =>
      rw [List.pairwise_cons]
      refine ⟨fun c hc => ?_, ih hl.2 fun c hc => ha c (List.mem_cons_of_mem _ hc)⟩
      rcases List.mem_cons.mp ((perm_insertBefore _ a l).mem_iff.mp hc) with rfl | hc
      · exact .inl (of_decide_eq_true h)
      · exact hl.1 c hc
    next h =>
      have hab : Before p a b := by
        rcases lt_or_eq_of_le (not_lt.mp fun h' => h (decide_eq_true h')) with h' | h'
        · exact .inl h'
        · exact .inr ⟨h', ha b List.mem_cons_self⟩
      rw [List.pairwise_cons]
      refine ⟨fun c hc => ?_, List.pairwise_cons.mpr hl⟩
      rcases List.mem_cons.mp hc with rfl | hc
      · exact hab
      · exact hab.trans (hl.1 c hc)

/-- Sorting positions given in rising order sorts them in descending order of the entries. -/
theorem pairwise_sort (p : Fin n → α) (l : List (Fin n)) (hl : l.Pairwise (· < ·)) :
    (stableSort (fun k k' => decide (p k' < p k)) l).Pairwise (Before p) := by
  induction l with
  | nil => exact List.Pairwise.nil
  | cons a l ih =>
    rw [List.pairwise_cons] at hl
    exact pairwise_insert p a _ (ih hl.2) fun b hb => hl.1 b ((perm_stableSort _ l).mem_iff.mp hb)

/-- Earlier places of the sort come before later ones. -/
theorem before_sorted (p : Fin n → α) {i j : Fin n} (h : i < j) :
    Before p (sortedFrom (fun k k' => decide (p k' < p k)) i) (sortedFrom (fun k k' => decide (p k' < p k)) j) :=
  List.pairwise_iff_get.mp (pairwise_sort p (List.finRange n) (List.pairwise_lt_finRange n)) _ _ h

/-- The first two places of the sort hold the two largest entries. -/
theorem isTop_sorted (p : Fin (n + 2) → α) :
    IsTop p (sortedFrom (fun k k' => decide (p k' < p k)) 0) (sortedFrom (fun k k' => decide (p k' < p k)) 1) where
  first k hk := by
    obtain ⟨a, rfl⟩ := sortedFrom_surjective (fun k k' => decide (p k' < p k)) k
    exact before_sorted p (Fin.pos_iff_ne_zero.mpr fun h => hk (h ▸ rfl))
  other h := absurd (sortedFrom_injective _ h) (by simp)
  second k hk hk' := by
    obtain ⟨a, rfl⟩ := sortedFrom_surjective (fun k k' => decide (p k' < p k)) k
    refine before_sorted p ?_
    have h0 : a.val ≠ 0 := fun h => hk (congrArg _ (Fin.ext h))
    have h1 : a.val ≠ 1 := fun h => hk' (congrArg _ (Fin.ext h))
    show (1 : Fin (n + 2)).val < a.val
    have : (1 : Fin (n + 2)).val = 1 := rfl
    omega

/-! ## By two searches -/

/-- Position `i` is the lowest that holds the largest entry. -/
def IsFirst (p : Fin n → α) (i : Fin n) : Prop := ∀ k, k ≠ i → Before p i k

theorem IsFirst.le {p : Fin n → α} {i : Fin n} (h : IsFirst p i) (k : Fin n) : p k ≤ p i := by
  by_cases hk : k = i
  · rw [hk]
  · exact (h k hk).elim le_of_lt fun h => h.1.le

/-- A row has such a position. -/
theorem exists_isFirst (p : Fin (n + 1) → α) : ∃ i, IsFirst p i := by
  refine ⟨sortedFrom (fun k k' => decide (p k' < p k)) 0, fun k hk => ?_⟩
  obtain ⟨a, rfl⟩ := sortedFrom_surjective (fun k k' => decide (p k' < p k)) k
  exact before_sorted p (Fin.pos_iff_ne_zero.mpr fun h => hk (h ▸ rfl))

/-- The largest entry, as a maximum taken from the bottom element, is the entry of that position. -/
theorem IsFirst.fold_max [OrderBot α] {p : Fin n → α} {i : Fin n} (h : IsFirst p i) :
    (Finset.univ : Finset (Fin n)).fold max ⊥ p = p i := by
  refine le_antisymm (Finset.fold_max_le _ |>.mpr ⟨bot_le, fun k _ => h.le k⟩) ?_
  exact (Finset.le_fold_max _).mpr (.inr ⟨i, Finset.mem_univ i, le_rfl⟩)

/-- Second search: where every entry is above the bottom element, the lowest position of the largest entry of the row
    with the bottom element in place of its largest is the second of the two. -/
theorem isTop_of_isFirst [OrderBot α] {p : Fin n → α} {i j : Fin n} (hp : ∀ k, ⊥ < p k) (hn : 1 < n) (hi : IsFirst p i)
    (hj : IsFirst (fun k => if k = i then ⊥ else p k) j) : IsTop p i j := by
  have hji : j ≠ i := by
    rintro rfl
    obtain ⟨k, hk⟩ : ∃ k : Fin n, k ≠ j :=
      haveI : Nontrivial (Fin n) := Fin.nontrivial_iff_two_le.mpr hn
      exists_ne j
    have := hj.le k
    simp only [if_neg hk, if_true] at this
    exact absurd (hp k) (not_lt.mpr this)
  refine ⟨hi, hji, fun k hk hk' => ?_⟩
  have := hj k hk'
  simpa only [Before, if_neg hk, if_neg hji] using this

/-! ## The lowest position as a word -/

/-- The least of words below `2^31`, taken from a word above them all: if one of them has value `v` and none has less,
    the minimum is that one. -/
theorem toNat_fold_minsi {ι : Type*} [Fintype ι] (f : ι → BitVec 32) (c : BitVec 32) (v : ℕ) (hc : c.toNat < 2 ^ 31)
    (hf : ∀ k, (f k).toNat < 2 ^ 31) (hvc : v ≤ c.toNat) (hv : ∀ k, v ≤ (f k).toNat) (k₀ : ι) (hk₀ : (f k₀).toNat = v) :
    ((Finset.univ : Finset ι).fold IntOp.minsi c f).toNat = v := by
  classical
  have key : ∀ s : Finset ι, (s.fold IntOp.minsi c f).toNat = s.fold min c.toNat (fun k => (f k).toNat) ∧
      (s.fold IntOp.minsi c f).toNat < 2 ^ 31 := by
    intro s
    induction s using Finset.induction_on with
    | empty => exact ⟨rfl, hc⟩
    | insert a s ha ih =>
      rw [Finset.fold_insert ha, Finset.fold_insert ha, WordArith.toNat_minsi_of_lt _ _ (hf a) ih.2, ih.1]
      exact ⟨rfl, lt_of_le_of_lt (min_le_left _ _) (hf a)⟩
  rw [(key _).1]
  refine le_antisymm ?_ (Finset.le_fold_min _ |>.mpr ⟨hvc, fun k _ => hv k⟩)
  exact (Finset.fold_min_le _).mpr (.inr ⟨k₀, Finset.mem_univ _, hk₀.le⟩)

/-- The search of a row of eight: the least of «the position where the entry reaches the largest, else eight» is the
    lowest position of the largest entry. -/
theorem IsFirst.search {p : Fin 8 → α} {i : Fin 8} (h : IsFirst p i) :
    (Finset.univ : Finset (Fin 8)).fold IntOp.minsi 2147483647#32
      (fun k => if p i ≤ p k then BitVec.ofNat 32 k.val else 8#32) = BitVec.ofNat 32 i.val := by
  have hw : ∀ k : Fin 8, (BitVec.ofNat 32 k.val).toNat = k.val := fun k => by
    rw [BitVec.toNat_ofNat]; exact Nat.mod_eq_of_lt (by omega)
  refine BitVec.eq_of_toNat_eq ?_
  rw [hw]
  refine toNat_fold_minsi _ _ i.val (by decide) (fun k => ?_) (by simp; omega) (fun k => ?_) i ?_
  · split
    · rw [hw]; omega
    · decide
  · split
    next hk =>
      rw [hw]
      by_cases e : k = i
      · rw [e]
      · rcases h k e with h | ⟨_, h⟩
        · exact absurd h (not_lt.mpr hk)
        · exact le_of_lt h
    · show i.val ≤ 8; omega
  · rw [if_pos le_rfl, hw]

end Cert.TopTwo
-- ==== Proof.Token.lean ====
/- What the mixture of experts computes for one token, in extended reals: the router's logits and their softmax, the
   weight that each expert gets when the two most probable are kept, one expert's output, and the weighted sum. Where the
   largest logit is finite every probability is above minus infinity, as the search for the second needs. -/
module

public import proofs.«01_k».proof.Proof.TopTwo
public import Idealize.ShloMosaic.PureOps.Ideal.Laws

@[expose] public section

noncomputable section

namespace Cert.Token

open Idealize.ShloMosaic Cert.TopTwo

/-- The router's logits: the token `x` times the router's matrix. -/
def logits (x : Fin 1024 → EReal) (w : Fin 1024 → Fin 8 → EReal) (l : Fin 8) : EReal := ∑ d, x d * w d l

/-- The largest of eight logits. -/
def peak (s : Fin 8 → EReal) : EReal := (Finset.univ : Finset (Fin 8)).fold max ⊥ s

/-- Their softmax. -/
def prob (s : Fin 8 → EReal) (l : Fin 8) : EReal :=
  Ideal.div (Ideal.exp (s l - peak s)) (∑ k, Ideal.exp (s k - peak s))

/-- The weight of expert `l` when experts `i` and `j` are kept: its probability if it is one of them, else zero. -/
def weight (p : Fin 8 → EReal) (i j l : Fin 8) : EReal := (if l = i then p i else 0) + (if l = j then p j else 0)

/-- The activation `gelu` in its form with `tanh`; the constants are the programs' own single-precision numbers. -/
def gelu (h : EReal) : EReal :=
  h * (Ideal.ofBits .f32 0x3F000000#32 * (1 + Ideal.tanh (Ideal.ofBits .f32 0x3F4C422A#32 *
    (h + Ideal.ofBits .f32 0x3D372713#32 * (h * (h * h))))))

/-- One expert's output at coordinate `c`, for the token `x`. -/
def expert (x : Fin 1024 → EReal) (w : Fin 1024 → Fin 2048 → EReal) (b : Fin 2048 → EReal)
    (v : Fin 2048 → Fin 1024 → EReal) (a : Fin 1024 → EReal) (c : Fin 1024) : EReal :=
  (∑ f, gelu ((∑ d, x d * w d f) + b f) * v f c) + a c

/-- The pattern of minus infinity is minus infinity. -/
theorem ofBits_neg_inf : Ideal.ofBits .f32 0xFF800000#32 = ⊥ := by
  simp [Ideal.ofBits, Ideal.ieee]

theorem exp_nonneg (x : EReal) : 0 ≤ Ideal.exp x := by
  induction x with
  | bot => exact le_rfl
  | top => exact le_top
  | coe r => exact EReal.coe_nonneg.mpr (Real.exp_pos r).le

/-- Where the largest logit is finite, every probability is above minus infinity. -/
theorem bot_lt_prob {s : Fin 8 → EReal} (h : ⊥ < peak s) (h' : peak s < ⊤) (l : Fin 8) : ⊥ < prob s l := by
  obtain ⟨i, hi⟩ := exists_isFirst s
  have hs : s i = peak s := hi.fold_max.symm
  have h1 : Ideal.exp (s i - peak s) = 1 := by
    rw [hs, EReal.sub_self h'.ne h.ne']
    show ((Real.exp 0 : ℝ) : EReal) = 1
    rw [Real.exp_zero]; rfl
  have hpos : 0 < ∑ k, Ideal.exp (s k - peak s) :=
    lt_of_lt_of_le (h1 ▸ zero_lt_one)
      (Finset.single_le_sum (f := fun k => Ideal.exp (s k - peak s)) (fun k _ => exp_nonneg _) (Finset.mem_univ i))
  unfold prob Ideal.div
  rw [if_neg hpos.ne']
  exact lt_of_lt_of_le EReal.bot_lt_zero (mul_nonneg (exp_nonneg _) (EReal.inv_nonneg_of_nonneg hpos.le))

end Cert.Token

end
-- ==== Proof.Block.lean ====
/- What the kernel's body computes for one block of 512 tokens, element by element: expert `e`'s weight at each token times
   the expert's output there. -/
module

public import proofs.«01_k».proof.Proof.Token
public import proofs.«01_k».proof.Proof.Body
public import Idealize.ShloMosaic.Lib.Pointwise

@[expose] public section

noncomputable section

namespace Cert.KernelIdeal.Block

open Cert.KernelIdeal Cert.KernelIdeal.Gen Cert.KernelIdeal.Body Cert.Token Cert.TopTwo
open Idealize.ShloMosaic Idealize.ShloMosaic.TcCoe

variable (x : FVec Ideal S512x1024 .f32) (wr : FVec Ideal S1024x8 .f32) (w1 : FVec Ideal S1x1024x2048 .f32)
  (b1 : FVec Ideal S1x1x2048 .f32) (w2 : FVec Ideal S1x2048x1024 .f32) (b2 : FVec Ideal S1x1x1024 .f32)

/-- The eight logits of the block's token `q`. -/
def row (q : Fin 512) : Fin 8 → EReal := logits (fun d => x (ix2 q d)) (fun d l => wr (ix2 d l))

/-- The expert's output at the block's token `q` and coordinate `c`. -/
def out (q : Fin 512) (c : Fin 1024) : EReal :=
  expert (fun d => x (ix2 q d)) (fun d f => w1 (ix3 0 d f)) (fun f => b1 (ix3 0 0 f)) (fun f c => w2 (ix3 0 f c))
    (fun c => b2 (ix3 0 0 c)) c

/-- A choice by «position `l` is `a`», both written as words. -/
theorem select_at (l a : Fin 8) (u v : EReal) :
    Scalar.select (IntOp.cmpi .eq (BitVec.ofNat 32 l.val) (BitVec.ofNat 32 a.val)) u v = if l = a then u else v := by
  have e : IntOp.cmpi .eq (BitVec.ofNat 32 l.val) (BitVec.ofNat 32 a.val) = if l = a then 1#1 else 0#1 := by
    revert a l; decide
  rw [e]
  split <;> rfl

theorem prob_at (q : Fin 512) (l : Fin 8) : k0_pay3 (F := Ideal) x wr (ix2 q l) = prob (row x wr q) l := by
  pointwise [k0_pay3, prob, peak, row, logits, ofBits_neg_inf, max_eq_right bot_le]

section Search

variable {q : Fin 512} {i j : Fin 8} (hi : IsFirst (prob (row x wr q)) i)
  (hj : IsFirst (fun k => if k = i then ⊥ else prob (row x wr q) k) j)

include hi

/-- The first search: the largest probability, -/
theorem max_at : k0_pay4 (F := Ideal) x wr (ix2 q 0) = prob (row x wr q) i := by
  pointwise [k0_pay4, prob_at, ofBits_neg_inf]
  exact hi.fold_max

/-- and the lowest position that holds it. -/
theorem index_at : k0_pay5 (F := Ideal) x wr (ix2 q 0) = BitVec.ofNat 32 i.val := by
  pointwise [k0_pay5, prob_at, max_at x wr hi]
  exact hi.search

/-- Minus infinity takes its place. -/
theorem rest_at (l : Fin 8) : k0_pay6 (F := Ideal) x wr (ix2 q l) = if l = i then ⊥ else prob (row x wr q) l := by
  pointwise [k0_pay6, prob_at, index_at x wr hi, ofBits_neg_inf, select_at]

/-- The first of the two weights. -/
theorem first_at (l : Fin 8) : k0_pay8 (F := Ideal) x wr (ix2 q l) = if l = i then prob (row x wr q) i else 0 := by
  pointwise [k0_pay8, max_at x wr hi, index_at x wr hi, select_at]

include hj

/-- The second search: the largest of the rest, -/
theorem max_rest_at : k0_pay7 (F := Ideal) x wr (ix2 q 0) = if j = i then ⊥ else prob (row x wr q) j := by
  pointwise [k0_pay7, rest_at x wr hi, ofBits_neg_inf]
  exact hj.fold_max

/-- and the lowest position that holds it. -/
theorem index_rest_at (l : Fin 8) : k0_pay9 (F := Ideal) x wr (ix2 q l) = BitVec.ofNat 32 j.val := by
  pointwise [k0_pay9, max_rest_at x wr hi hj, rest_at x wr hi]
  exact hj.search

end Search

/-- The expert's output. -/
theorem out_at (q : Fin 512) (c : Fin 1024) : k0_pay10 (F := Ideal) x w1 b1 w2 b2 (ix2 q c) = out x w1 b1 w2 b2 q c := by
  pointwise [k0_pay10, out, expert, gelu]

/-- The block's contribution at token `q` and coordinate `c`, where the token's largest logit is finite and `i`, `j` hold
    its two largest probabilities. -/
theorem contrib_at (e : Fin 8) (q : Fin 512) (c : Fin 1024) (h : ⊥ < peak (row x wr q)) (h' : peak (row x wr q) < ⊤)
    {i j : Fin 8} (ht : IsTop (prob (row x wr q)) i j) :
    contrib (F := Ideal) (BitVec.ofNat 32 e.val) x wr w1 b1 w2 b2 (ix2 q c)
      = weight (prob (row x wr q)) i j e * out x w1 b1 w2 b2 q c := by
  obtain ⟨i', hi⟩ := exists_isFirst (prob (row x wr q))
  obtain ⟨j', hj⟩ := exists_isFirst fun k => if k = i' then ⊥ else prob (row x wr q) k
  have htop := isTop_of_isFirst (bot_lt_prob h h') (by decide) hi hj
  obtain ⟨rfl, rfl⟩ := ht.unique htop
  pointwise [contrib, k0_pay1, k0_pay11, out_at, first_at x wr hi, index_rest_at x wr hi hj, max_rest_at x wr hi hj,
    select_at, if_neg ht.other]
  rw [Finset.sum_ite_eq' Finset.univ e, if_pos (Finset.mem_univ e)]
  rfl

end Cert.KernelIdeal.Block

end
-- ==== Proof.Blocks.lean ====
/-
  THE BLOCKS A POINT READS. At point `t` of the grid the body sees the rows `512 (t mod 4) …` of the tokens, the router weights
  whole, and expert `t / 4`'s two matrices and two bias rows; the bias arrays are reshaped to one row per expert before the grid runs.
  Each theorem reads one of these blocks at an index off the argument array it is cut from.
-/
module

public import proofs.«01_k».proof.Proof.Run
public import Idealize.ShloMosaic.Lib.Pipeline.ValueKit
public import Idealize.ShloMosaic.Lib.Pointwise

@[expose] public section

set_option maxRecDepth 16384

noncomputable section

namespace Cert.KernelIdeal.Blocks

open Cert.KernelIdeal Cert.KernelIdeal.Gen Cert.KernelIdeal.Run
open Idealize.ShloMosaic Idealize.ShloMosaic.TcCoe Idealize.ShloMosaic.Tactic

variable (m : (ℓ : Loc nD τ sig) → Buf (Elt Ideal) ℓ) (c : Dev nD)

/-- Each window's block index at a point. -/
theorem index (t : Fin cfg0.N) :
    win0_0.index t = ![t.val % 4, 0] ∧ win0_1.index t = ![0, 0] ∧ win0_2.index t = ![t.val / 4, 0, 0]
      ∧ win0_3.index t = ![t.val / 4, 0, 0] ∧ win0_4.index t = ![t.val / 4, 0, 0] ∧ win0_5.index t = ![t.val / 4, 0, 0] := by
  revert t
  decide +kernel

/-- The block of tokens at `(q, d)`: row `512 (t mod 4) + q` of the token array. -/
theorem tokens (t : Fin cfg0.N) (q : Fin 512) (d : Fin 1024) (r : Fin 2048) (hr : r.val = 512 * (t.val % 4) + q.val) :
    iblk m c 0 t (ix2 q d) = m ((c.tc : Thread nD τ).loc main_arg0) (ix2 r d) := by
  blk_ext! [iblk, V, index t]

/-- The router's block: the whole matrix. -/
theorem router (t : Fin cfg0.N) (d : Fin 1024) (l : Fin 8) :
    iblk m c 1 t (ix2 d l) = m ((c.tc : Thread nD τ).loc main_arg1) (ix2 d l) := by
  blk_ext! [iblk, V, index t]

/-- The first matrix' block: that of expert `t / 4`. -/
theorem first (t : Fin cfg0.N) (e : Fin 8) (he : e.val = t.val / 4) (d : Fin 1024) (f : Fin 2048) :
    iblk m c 2 t (ix3 0 d f) = m ((c.tc : Thread nD τ).loc main_arg2) (ix3 e d f) := by
  blk_ext! [iblk, V, index t]

/-- The first bias' block: the row of expert `t / 4`. -/
theorem firstBias (t : Fin cfg0.N) (e : Fin 8) (he : e.val = t.val / 4) (f : Fin 2048) :
    iblk m c 3 t (ix3 0 0 f) = m ((c.tc : Thread nD τ).loc main_arg3) (ix2 e f) := by
  blk_ext! [iblk, V, index t]

/-- The second matrix' block: that of expert `t / 4`. -/
theorem second (t : Fin cfg0.N) (e : Fin 8) (he : e.val = t.val / 4) (f : Fin 2048) (k : Fin 1024) :
    iblk m c 4 t (ix3 0 f k) = m ((c.tc : Thread nD τ).loc main_arg4) (ix3 e f k) := by
  blk_ext! [iblk, V, index t]

/-- The second bias' block: the row of expert `t / 4`. -/
theorem secondBias (t : Fin cfg0.N) (e : Fin 8) (he : e.val = t.val / 4) (k : Fin 1024) :
    iblk m c 5 t (ix3 0 0 k) = m ((c.tc : Thread nD τ).loc main_arg5) (ix2 e k) := by
  blk_ext! [iblk, V, index t]

end Cert.KernelIdeal.Blocks

end
-- ==== Proof.Reference.lean ====
/- What the reference's result holds, element by element: at token `r` and coordinate `c` the sum over the eight experts
   of the expert's weight times its output, where the two experts kept are the two most probable ones. -/
module

public import proofs.«01_k».proof.Proof.Token
public import proofs.«01_k».proof.Proof.Gen.ReferenceIdeal.Read
public import Idealize.ShloMosaic.Lib.Pointwise

@[expose] public section

noncomputable section

namespace Cert.ReferenceIdeal.At

open Cert.ReferenceIdeal Cert.ReferenceIdeal.Gen Cert.ReferenceIdeal.Read Cert.Token Cert.TopTwo
open Idealize.ShloMosaic Idealize.ShloMosaic.TcCoe

variable (x : FVec Ideal S2048x1024 .f32) (wr : FVec Ideal S1024x8 .f32) (w1 : FVec Ideal S8x1024x2048 .f32)
  (b1 : FVec Ideal S8x2048 .f32) (w2 : FVec Ideal S8x2048x1024 .f32) (b2 : FVec Ideal S8x1024 .f32)

/-- The eight logits of token `r`. -/
def row (r : Fin 2048) : Fin 8 → EReal := logits (fun d => x (ix2 r d)) (fun d l => wr (ix2 d l))

/-- Expert `e`'s output at token `r` and coordinate `c`. -/
def out (e : Fin 8) (r : Fin 2048) (c : Fin 1024) : EReal :=
  expert (fun d => x (ix2 r d)) (fun d f => w1 (ix3 e d f)) (fun f => b1 (ix2 e f)) (fun f c => w2 (ix3 e f c))
    (fun c => b2 (ix2 e c)) c

theorem logits_at (r : Fin 2048) (l : Fin 8) : val_main_v0 (F := Ideal) x wr (ix2 r l) = row x wr r l := by
  pointwise [val_main_v0, row, logits]

/-- The reduction of the logits is the largest of the row. -/
theorem largest_at (r : Fin 2048) : val_main_v1 (F := Ideal) x wr (ix1 r) = peak (row x wr r) := by
  pointwise [val_main_v1, val_main_cst, logits_at, ofBits_neg_inf, peak]

theorem peak_at (r : Fin 2048) : val_main_v3 (F := Ideal) x wr (ix1 r) = peak (row x wr r) := by
  pointwise [val_main_v3, val_main_v2, val_main_cst_0, largest_at, ofBits_neg_inf]
  exact max_eq_right bot_le

theorem prob_at (r : Fin 2048) (l : Fin 8) : val_main_v11 (F := Ideal) x wr (ix2 r l) = prob (row x wr r) l := by
  pointwise [val_main_v11, val_main_v10, val_main_v9, val_main_v8, val_main_v7, val_main_v6, val_main_v5, val_main_v4,
    val_main_cst_1, logits_at, peak_at, prob]

/-- The two experts kept, in order: the first two places of a stable descending sort of the probabilities. -/
def kept (r : Fin 2048) (k : Fin 2) : Fin 8 :=
  sortedFrom (fun a a' => decide (prob (row x wr r) a' < prob (row x wr r) a)) ⟨k.val, by omega⟩

theorem kept_isTop (r : Fin 2048) : IsTop (prob (row x wr r)) (kept x wr r 0) (kept x wr r 1) := isTop_sorted _

/-- The sort of row `r` by the printed comparison finds the element of place `k` at `kept x wr r k`. -/
theorem sorted_at (r : Fin 2048) (k : Fin 2) (q : Fin 8 → S2048x8.Idx) (hq : ∀ a, q a = ix2 r a) (h : k.val < 8) :
    sortedFrom (fun a a' : Fin 8 => FloatOps.cmpfTotal (F := Ideal) (φ := .f32) .gt (val_main_v11 (F := Ideal) x wr (q a))
      (val_main_v11 (F := Ideal) x wr (q a')) == 1#1) ⟨k.val, h⟩ = kept x wr r k := by
  unfold kept
  congr 1
  funext a a'
  rw [hq, hq, prob_at, prob_at]
  show (BitVec.ofBool (decide (prob (row x wr r) a' < prob (row x wr r) a)) == 1#1) = _
  cases decide (prob (row x wr r) a' < prob (row x wr r) a) <;> rfl

/-- Row `r` with its second coordinate replaced. -/
theorem along_at (r : Fin 2048) (b a : Fin 8) : Shape.Idx.along (s := S2048x8) (ix2 r b) 1 a = ix2 r a :=
  funext fun i => match i with
    | ⟨0, _⟩ => rfl
    | ⟨1, _⟩ => rfl

/-- The positions that the reference selects. -/
theorem index_at (r : Fin 2048) (k : Fin 2) :
    val_main_indices (F := Ideal) x wr (ix2 r k) = BitVec.ofNat 32 (kept x wr r k).val := by
  simp only [val_main_indices, Host.topK]
  pointwise [Host.sort2]
  erw [sorted_at x wr r k _ (fun a => along_at r _ a)]
  rfl

/-- The probabilities there. -/
theorem value_at (r : Fin 2048) (k : Fin 2) :
    val_main_values (F := Ideal) x wr (ix2 r k) = prob (row x wr r) (kept x wr r k) := by
  simp only [val_main_values, Host.topK]
  pointwise [Host.sort2]
  erw [sorted_at x wr r k _ (fun a => along_at r _ a), along_at, prob_at]

/-- A number times the indicator of «position `l` is `a`». -/
theorem one_hot (p : EReal) (a l : Fin 8) :
    p * FloatOps.uitofp (F := Ideal) .f32 (IntOp.cmpi .eq (BitVec.ofNat 32 a.val) (BitVec.ofNat 32 l.val))
      = if l = a then p else 0 := by
  have e : IntOp.cmpi .eq (BitVec.ofNat 32 a.val) (BitVec.ofNat 32 l.val) = if l = a then 1#1 else 0#1 := by
    revert a l; decide
  rw [e]
  split
  · show p * (((1#1 : BitVec 1).toNat : ℝ) : EReal) = p
    simp
  · show p * (((0#1 : BitVec 1).toNat : ℝ) : EReal) = 0
    simp

/-- The weights. -/
theorem weight_at (r : Fin 2048) (l : Fin 8) :
    val_main_v13 (F := Ideal) x wr (ix2 r l) = weight (prob (row x wr r)) (kept x wr r 0) (kept x wr r 1) l := by
  pointwise [val_main_v13, val_main_v12, val_main_call0_v4, val_main_call0_v3, val_main_call0_v2, val_main_call0_v1,
    val_main_call0_v0]
  rw [Fin.sum_univ_two]
  simp only [index_at, value_at, one_hot]
  rfl

theorem hidden_at (e : Fin 8) (r f : Fin 2048) :
    val_main_v18 (F := Ideal) x w1 b1 (ix3 e r f) = (∑ d, x (ix2 r d) * w1 (ix3 e d f)) + b1 (ix2 e f) := by
  pointwise [val_main_v18, val_main_v17, val_main_v16, val_main_v15, val_main_v14]
  exact congrArg (· + _) (Finset.sum_congr rfl fun _ _ => mul_comm _ _)

theorem gelu_at (e : Fin 8) (r f : Fin 2048) :
    val_main_v31 (F := Ideal) x w1 b1 (ix3 e r f) = gelu (val_main_v18 (F := Ideal) x w1 b1 (ix3 e r f)) := by
  pointwise [val_main_v31, val_main_v30, val_main_v29, val_main_v28, val_main_v27, val_main_v26, val_main_v25,
    val_main_v24, val_main_v23, val_main_v22, val_main_v21, val_main_v20, val_main_v19, val_main_cst_2, val_main_cst_3,
    val_main_cst_4, val_main_cst_5, gelu]
  rw [mul_assoc (val_main_v18 (F := Ideal) x w1 b1 (ix3 e r f))]

theorem out_at (e : Fin 8) (r : Fin 2048) (c : Fin 1024) :
    val_main_v35 (F := Ideal) x w1 b1 w2 b2 (ix3 e r c) = out x w1 b1 w2 b2 e r c := by
  pointwise [val_main_v35, val_main_v34, val_main_v33, val_main_v32, gelu_at, hidden_at, out, expert]

/-- The result, element by element. -/
theorem result_at (r : Fin 2048) (c : Fin 1024) :
    val_main_v36 (F := Ideal) x wr w1 b1 w2 b2 (ix2 r c)
      = ∑ e, weight (prob (row x wr r)) (kept x wr r 0) (kept x wr r 1) e * out x w1 b1 w2 b2 e r c := by
  pointwise [val_main_v36, weight_at, out_at]

end Cert.ReferenceIdeal.At

end
-- ==== Proof.Equation.lean ====
/-
  THE EQUATION. Where the largest logit of every token is finite, the sum of the eight contributions that the kernel leaves at an
  element of its result is what the reference computes there.
-/
module

public import proofs.«01_k».proof.Pre_router_finite
public import proofs.«01_k».proof.Proof.Block
public import proofs.«01_k».proof.Proof.Blocks
public import proofs.«01_k».proof.Proof.Reference

@[expose] public section

set_option maxRecDepth 16384

noncomputable section

namespace Cert.Equation

open Cert.KernelIdeal Cert.KernelIdeal.Run Cert.KernelIdeal.Gen Cert.KernelIdeal.Body Cert.Token Cert.TopTwo
open Idealize.ShloMosaic Idealize.ShloMosaic.TcCoe

/-! ## The precondition -/

/-- The side conditions of the precondition's operations. -/
theorem preFacts : Cert.Pre_router_finite.Facts where
  reducesTo_S2048x8_S2048_d1 := Cert.ReferenceIdeal.Gen.facts.toFacts₀.reducesTo_S2048x8_S2048_d1
  h_S_ := by decide
  bcast_S_S2048 := by decide
  dot_S2048x1024_S1024x8_S2048x8_1_0_0_1_n_n_wf := by decide

/-- The pattern of plus infinity is plus infinity. -/
theorem ofBits_inf : Ideal.ofBits .f32 0x7F800000#32 = ⊤ := by
  simp [Ideal.ofBits, Ideal.ieee]

/-- Two comparisons that are both set both hold. -/
theorem of_andi {a b : EReal} (h : IntOp.andi (FloatOps.cmpf (F := Ideal) (φ := .f32) .ogt a ⊥) (FloatOps.cmpf (F := Ideal) (φ := .f32) .olt a b) = 1#1) :
    ⊥ < a ∧ a < b := by
  change BitVec.ofBool (decide (⊥ < a)) &&& BitVec.ofBool (decide (a < b)) = 1#1 at h
  by_cases h1 : ⊥ < a <;> by_cases h2 : a < b <;> simp_all

section

attribute [local instance] preFacts

/-- The precondition, read at token `r`: the largest logit is above minus infinity and below plus infinity. -/
theorem finite_at {x : FVec Ideal S2048x1024 .f32} {wr : FVec Ideal S1024x8 .f32} {w1 b1 w2 b2}
    (h : Cert.Pre_router_finite.fn (F := Ideal) x wr w1 b1 w2 b2 = fun _ => 1#1) (r : Fin 2048) :
    ⊥ < peak (Cert.ReferenceIdeal.At.row x wr r) ∧ peak (Cert.ReferenceIdeal.At.row x wr r) < ⊤ := by
  have e := congrFun h (ix1 r)
  rw [← Cert.ReferenceIdeal.At.largest_at, ← ofBits_inf]
  refine of_andi ?_
  rw [← ofBits_neg_inf]
  exact e

end

/-! ## The kernel's sum and the reference's -/

variable (m : (ℓ : Loc nD τ sig) → Buf (Elt Ideal) ℓ) (c : Dev nD)

/-- The argument arrays. -/
abbrev X : FVec Ideal S2048x1024 .f32 := m ((c.tc : Thread nD τ).loc main_arg0)
@[inherit_doc X] abbrev WR : FVec Ideal S1024x8 .f32 := m ((c.tc : Thread nD τ).loc main_arg1)
@[inherit_doc X] abbrev W1 : FVec Ideal S8x1024x2048 .f32 := m ((c.tc : Thread nD τ).loc main_arg2)
@[inherit_doc X] abbrev B1 : FVec Ideal S8x2048 .f32 := m ((c.tc : Thread nD τ).loc main_arg3)
@[inherit_doc X] abbrev W2 : FVec Ideal S8x2048x1024 .f32 := m ((c.tc : Thread nD τ).loc main_arg4)
@[inherit_doc X] abbrev B2 : FVec Ideal S8x1024 .f32 := m ((c.tc : Thread nD τ).loc main_arg5)

/-- The logits of a block's token are those of the token's row in the whole array, -/
theorem row_eq (t : Fin cfg0.N) (q : Fin 512) (r : Fin 2048) (hr : r.val = 512 * (t.val % 4) + q.val) :
    Cert.KernelIdeal.Block.row (iblk m c 0 t) (iblk m c 1 t) q = Cert.ReferenceIdeal.At.row (X m c) (WR m c) r := by
  unfold Cert.KernelIdeal.Block.row Cert.ReferenceIdeal.At.row
  congr 1
  · exact funext fun d => Blocks.tokens m c t q d r hr
  · exact funext fun d => funext fun l => Blocks.router m c t d l

/-- and the output of the point's expert there is that expert's output at the row. -/
theorem out_eq (t : Fin cfg0.N) (e : Fin 8) (he : e.val = t.val / 4) (q : Fin 512) (r : Fin 2048)
    (hr : r.val = 512 * (t.val % 4) + q.val) (k : Fin 1024) :
    Cert.KernelIdeal.Block.out (iblk m c 0 t) (iblk m c 2 t) (iblk m c 3 t) (iblk m c 4 t) (iblk m c 5 t) q k
      = Cert.ReferenceIdeal.At.out (X m c) (W1 m c) (B1 m c) (W2 m c) (B2 m c) e r k := by
  unfold Cert.KernelIdeal.Block.out Cert.ReferenceIdeal.At.out
  congr 1
  · exact funext fun d => Blocks.tokens m c t q d r hr
  · exact funext fun d => funext fun f => Blocks.first m c t e he d f
  · exact funext fun f => Blocks.firstBias m c t e he f
  · exact funext fun f => funext fun k => Blocks.second m c t e he f k
  · exact funext fun k => Blocks.secondBias m c t e he k

section

variable {m c} {r : Fin 2048} {b : ℕ} {q : Fin 512}

/-- Expert `e`'s contribution at row `r`: its weight times its output. -/
theorem contribAt_eq (h : ⊥ < peak (Cert.ReferenceIdeal.At.row (X m c) (WR m c) r))
    (h' : peak (Cert.ReferenceIdeal.At.row (X m c) (WR m c) r) < ⊤) (hb : b < 4) (hr : r.val = 512 * b + q.val) (e : Fin 8) (k : Fin 1024) :
    contribAt m c (point e.val b) (ix2 q k)
      = weight (prob (Cert.ReferenceIdeal.At.row (X m c) (WR m c) r)) (Cert.ReferenceIdeal.At.kept (X m c) (WR m c) r 0)
          (Cert.ReferenceIdeal.At.kept (X m c) (WR m c) r 1) e
        * Cert.ReferenceIdeal.At.out (X m c) (W1 m c) (B1 m c) (W2 m c) (B2 m c) e r k := by
  have hv : (point e.val b).val = 4 * e.val + b := Nat.mod_eq_of_lt (by omega)
  have hq : r.val = 512 * ((point e.val b).val % 4) + q.val := by omega
  have he : e.val = (point e.val b).val / 4 := by omega
  have hrow := row_eq m c (point e.val b) q r hq
  unfold contribAt
  rw [expert_val, ← he, Block.contrib_at _ _ _ _ _ _ e q k (hrow ▸ h) (hrow ▸ h') (hrow ▸ Cert.ReferenceIdeal.At.kept_isTop (X m c) (WR m c) r),
    hrow, out_eq m c _ e he q r hq]

/-- The kernel's sum over the eight experts is the reference's result. -/
theorem upTo_eq (h : ⊥ < peak (Cert.ReferenceIdeal.At.row (X m c) (WR m c) r))
    (h' : peak (Cert.ReferenceIdeal.At.row (X m c) (WR m c) r) < ⊤) (hb : b < 4) (hr : r.val = 512 * b + q.val) (k : Fin 1024) :
    upTo m c 7 b (ix2 q k)
      = Cert.ReferenceIdeal.Read.val_main_v36 (F := Ideal) (X m c) (WR m c) (W1 m c) (B1 m c) (W2 m c) (B2 m c) (ix2 r k) := by
  have e := contribAt_eq h h' hb hr
  rw [Cert.ReferenceIdeal.At.result_at, Fin.sum_univ_eight, ← e 0 k, ← e 1 k, ← e 2 k, ← e 3 k, ← e 4 k, ← e 5 k, ← e 6 k, ← e 7 k]
  rfl

end

end Cert.Equation

end
-- ==== Proof.lean ====
/-
  THE CLAIMS. A mixture of eight experts, densely: the kernel's grid visits every expert on every block of 512 tokens, and adds to the
  result the expert's output times its weight, which is zero for all but the two most probable experts of a token. Proved are

  - that the kernel, its ideal program and the ideal reference end without fault, with their arguments as they were and no semaphore
    counted;
  - that the ideal program is the kernel's own text;
  - that the ideal kernel and the ideal reference compute the same array wherever the largest logit of every token is finite.

  The modules: `Body` runs the kernel's body at one point of the grid; `Run` says what the result array holds after each point, and runs
  the program; `Printed` carries that run over to the printed kernel; `TopTwo` is the choice of the two largest of eight; `Token` is what
  is computed for one token; `Block` reads the body's contribution, `Blocks` the arrays it is computed from, `Reference` the reference's
  result; `Equation` joins them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Printed
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

attribute [local instance] Cert.Equation.preFacts

/-- The ideal kernel ends without fault, its arguments as they were and no semaphore counted. -/
theorem frame_ideal : Cert.quiescent_KernelIdeal := fun m ρ _ =>
  (θ_run Cert.KernelIdeal.defs _ _).mono (fun _ h => ⟨fun c => (h.1 c).2, h.2⟩) (Cert.KernelIdeal.Run.run m ρ)

/-- The ideal reference too. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- An array that holds, block by block, the kernel's sums over the eight experts is the reference's result, where the largest logit of
    every token is finite. -/
theorem result_eq (m : (ℓ : Loc Cert.KernelIdeal.nD Cert.KernelIdeal.τ Cert.KernelIdeal.sig) → Buf (Elt Ideal) ℓ)
    (hpre : Cert.Pre_KernelIdeal_router_finite m) (c : Dev Cert.KernelIdeal.nD) (Y : FVec Ideal Cert.KernelIdeal.S2048x1024 .f32)
    (hY : ∀ b < 4, ∀ (y : Cert.KernelIdeal.S2048x1024.Idx) (x : Cert.KernelIdeal.S512x1024.Idx),
      Cert.KernelIdeal.Body.AtBlock b y x → Y y = Cert.KernelIdeal.Run.upTo m c 7 b x) :
    Y = Cert.ReferenceIdeal.Read.val_main_v36 (F := Ideal) (Cert.Equation.X m c) (Cert.Equation.WR m c) (Cert.Equation.W1 m c)
      (Cert.Equation.B1 m c) (Cert.Equation.W2 m c) (Cert.Equation.B2 m c) := by
  funext y
  obtain ⟨r, k, rfl⟩ : ∃ (r : Fin 2048) (k : Fin 1024), y = ix2 r k := ⟨y 0, y 1, by
    funext a; match a with
    | ⟨0, _⟩ => rfl
    | ⟨1, _⟩ => rfl⟩
  obtain ⟨h, h'⟩ := Cert.Equation.finite_at (hpre c) r
  have hr : r.val = 512 * (r.val / 512) + r.val % 512 := by omega
  have hb : r.val / 512 < 4 := by omega
  have hq : r.val % 512 < 512 := by omega
  exact (hY _ hb (ix2 r k) (ix2 ⟨r.val % 512, hq⟩ k) ⟨hr, rfl⟩).trans (Cert.Equation.upTo_eq h h' hb hr k)

/-- The ideal kernel and the ideal reference compute the same array, where the largest logit of every token is finite. -/
theorem algebraic : Cert.algebraic_KernelIdeal_ReferenceIdeal_pre_router_finite := by
  intro m ρ m' ρ' hpre hagree
  refine ⟨fun c => Cert.ReferenceIdeal.Read.val_main_v36 (F := Ideal) (Cert.Equation.X m c) (Cert.Equation.WR m c)
      (Cert.Equation.W1 m c) (Cert.Equation.B1 m c) (Cert.Equation.W2 m c) (Cert.Equation.B2 m c), ?_, ?_⟩
  · exact (θ_run Cert.KernelIdeal.defs _ _).mono (fun r h c => ⟨result_eq m hpre c _ (h.1 c).1, (h.1 c).2⟩)
      (Cert.KernelIdeal.Run.run m ρ)
  · refine (θ_run Cert.ReferenceIdeal.defs _ _).mono (fun r h c => ⟨?_, (h c).2⟩) (Cert.ReferenceIdeal.Value.run m' ρ')
    obtain ⟨h0, h1, h2, h3, h4, h5⟩ := hagree c
    rw [(h c).1, Cert.ReferenceIdeal.Read.val_main_v36_eq, h0, h1, h2, h3, h4, h5]

/-- All the claims together. -/
theorem claim : Cert.Claim :=
  ⟨Cert.Kernel.Gen.facts, Cert.KernelIdeal.Gen.facts, Cert.ReferenceIdeal.Gen.facts, Cert.Equation.preFacts,
    Cert.Kernel.Printed.frame, frame_ideal, fun m ρ _ => frame_ideal m ρ trivial, frame_reference,
    fun m ρ _ => frame_reference m ρ trivial, trivial, algebraic⟩

end Cert.Proof

end
